-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S50x1000x512 : Shape := ⟨3, ![50, 1000, 512]⟩
abbrev S50x2x16000 : Shape := ⟨3, ![50, 2, 16000]⟩
abbrev S50 : Shape := ⟨1, ![50]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S50000x512 : Shape := ⟨2, ![50000, 512]⟩
abbrev S1x512 : Shape := ⟨2, ![1, 512]⟩
abbrev S1x256 : Shape := ⟨2, ![1, 256]⟩
abbrev S1x1 : Shape := ⟨2, ![1, 1]⟩
abbrev S50x1x1 : Shape := ⟨3, ![50, 1, 1]⟩
abbrev S5000x512 : Shape := ⟨2, ![5000, 512]⟩
abbrev S5x1x1 : Shape := ⟨3, ![5, 1, 1]⟩
abbrev S5000x256 : Shape := ⟨2, ![5000, 256]⟩
abbrev S5x1000x256 : Shape := ⟨3, ![5, 1000, 256]⟩
abbrev S5x256 : Shape := ⟨2, ![5, 256]⟩
abbrev S5x1 : Shape := ⟨2, ![5, 1]⟩
abbrev S50x1 : Shape := ⟨2, ![50, 1]⟩

abbrev nBuf : Space → Nat
  | .hbm => 21
  | .vmem => 12
  | .smem => 0
  | _ => 0

abbrev bufTy : (tb : Table) → Fin (tcTables nBuf tb) → BufTy
  | .hbm, ⟨0, _⟩ => ⟨S50x1000x512, .f32⟩
  | .hbm, ⟨1, _⟩ => ⟨S50x2x16000, .i32⟩
  | .hbm, ⟨2, _⟩ => ⟨S50, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S50000x512, .f32⟩
  | .hbm, ⟨12, _⟩ => ⟨S512x512, .bf16⟩
  | .hbm, ⟨13, _⟩ => ⟨S512x512, .bf16⟩
  | .hbm, ⟨14, _⟩ => ⟨S512x256, .bf16⟩
  | .hbm, ⟨15, _⟩ => ⟨S1x512, .f32⟩
  | .hbm, ⟨16, _⟩ => ⟨S1x512, .f32⟩
  | .hbm, ⟨17, _⟩ => ⟨S1x256, .f32⟩
  | .hbm, ⟨18, _⟩ => ⟨S1x1, .f32⟩
  | .hbm, ⟨19, _⟩ => ⟨S50x1x1, .f32⟩
  | .hbm, ⟨20, _⟩ => ⟨S50x1, .f32⟩
  | .local _ .vmem, ⟨0, _⟩ => ⟨S5000x512, .f32⟩
  | .local _ .vmem, ⟨1, _⟩ => ⟨S5000x512, .f32⟩
  | .local _ .vmem, ⟨2, _⟩ => ⟨S512x512, .bf16⟩
  | .local _ .vmem, ⟨3, _⟩ => ⟨S1x512, .f32⟩
  | .local _ .vmem, ⟨4, _⟩ => ⟨S512x512, .bf16⟩
  | .local _ .vmem, ⟨5, _⟩ => ⟨S1x512, .f32⟩
  | .local _ .vmem, ⟨6, _⟩ => ⟨S512x256, .bf16⟩
  | .local _ .vmem, ⟨7, _⟩ => ⟨S1x256, .f32⟩
  | .local _ .vmem, ⟨8, _⟩ => ⟨S256x1, .f32⟩
  | .local _ .vmem, ⟨9, _⟩ => ⟨S1x1, .f32⟩
  | .local _ .vmem, ⟨10, _⟩ => ⟨S5x1x1, .f32⟩
  | .local _ .vmem, ⟨11, _⟩ => ⟨S5x1x1, .f32⟩
  | _, _ => ⟨S50x1000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S50x1000x512 : Shape := ⟨3, ![50, 1000, 512]⟩
abbrev S50x2x16000 : Shape := ⟨3, ![50, 2, 16000]⟩
abbrev S50 : Shape := ⟨1, ![50]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S50000x512 : Shape := ⟨2, ![50000, 512]⟩
abbrev S50x1000 : Shape := ⟨2, ![50, 1000]⟩
abbrev S50000 : Shape := ⟨1, ![50000]⟩
abbrev S1x512 : Shape := ⟨2, ![1, 512]⟩
abbrev S_ : Shape := ⟨0, ![]⟩
abbrev S50000x256 : Shape := ⟨2, ![50000, 256]⟩
abbrev S1x256 : Shape := ⟨2, ![1, 256]⟩
abbrev S50x256 : Shape := ⟨2, ![50, 256]⟩
abbrev S50000x1 : Shape := ⟨2, ![50000, 1]⟩
abbrev S50x1 : Shape := ⟨2, ![50, 1]⟩
abbrev S1x1 : Shape := ⟨2, ![1, 1]⟩

abbrev nBuf : Space → Nat
  | .hbm => 50
  | .vmem => 0
  | .smem => 0
  | _ => 0

abbrev bufTy : (tb : Table) → Fin (tcTables nBuf tb) → BufTy
  | .hbm, ⟨0, _⟩ => ⟨S50x1000x512, .f32⟩
  | .hbm, ⟨1, _⟩ => ⟨S50x2x16000, .i32⟩
  | .hbm, ⟨2, _⟩ => ⟨S50, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S50000x512, .f32⟩
  | .hbm, ⟨12, _⟩ => ⟨S50, .i32⟩
  | .hbm, ⟨13, _⟩ => ⟨S50x1000, .i32⟩
  | .hbm, ⟨14, _⟩ => ⟨S50000, .i32⟩
  | .hbm, ⟨15, _⟩ => ⟨S50000x512, .f32⟩
  | .hbm, ⟨16, _⟩ => ⟨S1x512, .f32⟩
  | .hbm, ⟨17, _⟩ => ⟨S50000x512, .f32⟩
  | .hbm, ⟨18, _⟩ => ⟨S50000x512, .f32⟩
  | .hbm, ⟨19, _⟩ => ⟨S_, .f32⟩
  | .hbm, ⟨20, _⟩ => ⟨S50000x512, .f32⟩
  | .hbm, ⟨21, _⟩ => ⟨S50000x512, .i1⟩
  | .hbm, ⟨22, _⟩ => ⟨S_, .f32⟩
  | .hbm, ⟨23, _⟩ => ⟨S50000x512, .f32⟩
  | .hbm, ⟨24, _⟩ => ⟨S50000x512, .f32⟩
  | .hbm, ⟨25, _⟩ => ⟨S50000x512, .f32⟩
  | .hbm, ⟨26, _⟩ => ⟨S50000x512, .f32⟩
  | .hbm, ⟨27, _⟩ => ⟨S1x512, .f32⟩
  | .hbm, ⟨28, _⟩ => ⟨S50000x512, .f32⟩
  | .hbm, ⟨29, _⟩ => ⟨S50000x512, .f32⟩
  | .hbm, ⟨30, _⟩ => ⟨S_, .f32⟩
  | .hbm, ⟨31, _⟩ => ⟨S50000x512, .f32⟩
  | .hbm, ⟨32, _⟩ => ⟨S50000x512, .i1⟩
  | .hbm, ⟨33, _⟩ => ⟨S_, .f32⟩
  | .hbm, ⟨34, _⟩ => ⟨S50000x512, .f32⟩
  | .hbm, ⟨35, _⟩ => ⟨S50000x512, .f32⟩
  | .hbm, ⟨36, _⟩ => ⟨S50000x512, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S_, .f32⟩
  | .hbm, ⟨42, _⟩ => ⟨S50x256, .f32⟩
  | .hbm, ⟨43, _⟩ => ⟨S50000x1, .i32⟩
  | .hbm, ⟨44, _⟩ => ⟨S50x256, .f32⟩
  | .hbm, ⟨45, _⟩ => ⟨S50x1, .f32⟩
  | .hbm, ⟨46, _⟩ => ⟨S50x1, .f32⟩
  | .hbm, ⟨47, _⟩ => ⟨S1x1, .f32⟩
  | .hbm, ⟨48, _⟩ => ⟨S50x1, .f32⟩
  | .hbm, ⟨49, _⟩ => ⟨S50x1, .f32⟩
  | _, _ => ⟨S50x1000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== Proof.Spec.lean ====
/- The mathematics both programs compute, on functions of plain coordinates over the extended reals.

   One row of node features goes through three affine layers, the first two followed by the leaky rectifier; a graph's
   score is the affine readout of the sum of its rows. Nothing here names a program. -/
module

public import Idealize.ShloMosaic.Lib.Pointwise

@[expose] public section

noncomputable section

namespace Cert.GraphScore

open Idealize.ShloMosaic

/-- The rectifier's slope on the negative side: the single-precision word nearest to one hundredth. -/
def negSlope : EReal := Ideal.ofBits .f32 0x3C23D70A#32

/-- The leaky rectifier, spelt as the larger of a value and its scaled copy. -/
def leaky (v : EReal) : EReal := max v (negSlope * v)

/-- Output coordinate `j` of an affine layer on the row `x`. -/
def layer {K H : Nat} (W : Fin K → Fin H → EReal) (b : Fin H → EReal) (x : Fin K → EReal) (j : Fin H) : EReal :=
  (∑ k, x k * W k j) + b j

/-- A row after two rectified layers and a third one without rectifier. -/
def feature {K H₁ H₂ D : Nat} (W₁ : Fin K → Fin H₁ → EReal) (b₁ : Fin H₁ → EReal) (W₂ : Fin H₁ → Fin H₂ → EReal) (b₂ : Fin H₂ → EReal)
    (W₃ : Fin H₂ → Fin D → EReal) (b₃ : Fin D → EReal) (x : Fin K → EReal) : Fin D → EReal :=
  layer W₃ b₃ fun k => leaky (layer W₂ b₂ (fun l => leaky (layer W₁ b₁ x l)) k)

/-- A graph's score: its rows' features summed, then read out by a weight vector and an offset. -/
def score {N D : Nat} (f : Fin N → Fin D → EReal) (w : Fin D → EReal) (b : EReal) : EReal :=
  (∑ d, (∑ n, f n d) * w d) + b

/-- The whole computation on arrays: the score of graph `g` from the node table, three weight matrices with their offsets,
    and the readout's weights and offset. -/
def graphScore (x : FVec Ideal ⟨3, ![50, 1000, 512]⟩ .f32) (W₁ : FVec Ideal ⟨2, ![512, 512]⟩ .f32) (b₁ : FVec Ideal ⟨1, ![512]⟩ .f32)
    (W₂ : FVec Ideal ⟨2, ![512, 512]⟩ .f32) (b₂ : FVec Ideal ⟨1, ![512]⟩ .f32) (W₃ : FVec Ideal ⟨2, ![512, 256]⟩ .f32) (b₃ : FVec Ideal ⟨1, ![256]⟩ .f32)
    (w : FVec Ideal ⟨2, ![256, 1]⟩ .f32) (b : FVec Ideal ⟨1, ![1]⟩ .f32) (g : Fin 50) : EReal :=
  score (fun (n : Fin 1000) => feature (fun k l => W₁ (ix2 k l)) (fun l => b₁ (ix1 l)) (fun k l => W₂ (ix2 k l)) (fun l => b₂ (ix1 l))
    (fun k l => W₃ (ix2 k l)) (fun l => b₃ (ix1 l)) (fun k => x (ix3 g n k))) (fun d => w (ix2 d 0)) (b (ix1 0))

/-- The slope is a real number strictly between zero and one. -/
theorem negSlope_real : ∃ r : ℝ, negSlope = (r : EReal) ∧ 0 < r ∧ r < 1 := by
  refine ⟨10737418 / 2 ^ 30, ?_, by norm_num, by norm_num⟩
  simp [negSlope, Ideal.ofBits, Ideal.ieee, -EReal.coe_mul]; norm_num

/-- The two spellings of the leaky rectifier agree at every extended real: the larger of `v` and its scaled copy is `v`
    where `v` is not negative and the scaled copy elsewhere. -/
theorem leaky_eq_ite (v : EReal) : leaky v = if 0 ≤ v then v else negSlope * v := by
  obtain ⟨r, hr, h0, h1⟩ := negSlope_real
  unfold leaky
  rw [hr]
  induction v with
  | bot => rw [if_neg (by simp), EReal.coe_mul_bot_of_pos h0]; simp
  | top => rw [if_pos (by simp)]; simp
  | coe x =>
    rw [← EReal.coe_mul]
    by_cases hx : 0 ≤ x
    · rw [if_pos (by exact_mod_cast hx)]
      exact max_eq_left (by exact_mod_cast (by nlinarith : r * x ≤ x))
    · rw [if_neg (by exact_mod_cast hx)]
      exact max_eq_right (by exact_mod_cast (by nlinarith : x ≤ r * x))

end Cert.GraphScore
-- ==== Proof.Block.lean ====
/- What one run of the kernel's body writes: at graph `p` of the block, the score of the block's rows `1000 p + n`. -/
module

public import proofs.«01_k».proof.Proof.Gen.KernelIdeal.Skeleton
public import proofs.«01_k».proof.Proof.Spec

@[expose] public section

set_option maxRecDepth 16384

noncomputable section

namespace Cert.KernelIdeal.BlockValue

open Cert.KernelIdeal Cert.KernelIdeal.Gen Cert.GraphScore Idealize.ShloMosaic

/-- The stored block at graph `p`, for any contents of the nine blocks read. -/
theorem stored_apply (x0 : Vec Ideal S5000x512 .f32) (x1 : Vec Ideal S512x512 .bf16) (x2 : Vec Ideal S1x512 .f32) (x3 : Vec Ideal S512x512 .bf16)
    (x4 : Vec Ideal S1x512 .f32) (x5 : Vec Ideal S512x256 .bf16) (x6 : Vec Ideal S1x256 .f32) (x7 : Vec Ideal S256x1 .f32) (x8 : Vec Ideal S1x1 .f32)
    (p : Fin 5) :
    k0_pay1 (F := Ideal) (k0_pay2 x0 x1 x2 x3 x4 x5 x6 x7) x8 (ix3 p 0 0)
      = score (fun (n : Fin 1000) => feature (fun k l => x1 (ix2 k l)) (fun l => x2 (ix2 0 l)) (fun k l => x3 (ix2 k l)) (fun l => x4 (ix2 0 l))
          (fun k l => x5 (ix2 k l)) (fun l => x6 (ix2 0 l)) (fun k => x0 (ix2 (⟨p.val * 1000 + n.val, by omega⟩ : Fin 5000) k)))
          (fun d => x7 (ix2 d 0)) (x8 (ix2 0 0)) := by
  pointwise [k0_pay1, k0_pay2]
  unfold score feature layer leaky negSlope
  rfl

end Cert.KernelIdeal.BlockValue
-- ==== Proof.KernelValue.lean ====
/- What the kernel's run leaves in its result: the score of each graph.

   Point `t` of the grid reads the rows `5000 t, …, 5000 t + 4999` of the flattened node table and the weights whole, and
   writes the graphs `5 t, …, 5 t + 4`; the ten blocks written fill the output array, which the program then flattens. -/
module

public import proofs.«01_k».proof.Proof.Gen.KernelIdeal.Frame
public import Idealize.ShloMosaic.Lib.Pipeline.ValueKit
public import Idealize.ShloMosaic.Lib.Claim
public import Idealize.ShloMosaic.Lib.Pipeline.FrameTail
public import proofs.«01_k».proof.Proof.Block

@[expose] public section

set_option maxRecDepth 16384

noncomputable section

namespace Cert.KernelIdeal.RunValue

open Cert.KernelIdeal Cert.KernelIdeal.Gen Cert.GraphScore Idealize.ShloMosaic Idealize.ShloMosaic.TcCoe Idealize.SL.Sem Idealize.ShloMosaic.StableHlo

variable (m : (ℓ : Loc nD τ sig) → Buf (Elt Ideal) ℓ) (c : Dev nD)

/-- Graph `g`'s score on the launch contents of the arguments. -/
abbrev scoreAt (g : Fin 50) : EReal :=
  graphScore (m ((c.tc : Thread nD τ).loc main_arg0)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10)) g

/-! ## The arrays the grid reads, as the operations before it leave them -/

/-- The node table, flattened over graphs and nodes. -/
theorem entry_nodes : V m c main_v0 = shapeCast S50000x512 (m ((c.tc : Thread nD τ).loc main_arg0)) shapeCasts_S50x1000x512_S50000x512 := by
  show after hostOps0 _ _ = _
  after_results
  rfl

/-- The first weight matrix, its values unchanged by the conversion. -/
theorem entry_firstWeights : V m c main_v1 = truncf (F := Ideal) .bf16 (m ((c.tc : Thread nD τ).loc main_arg3)) bitsLt_bf16_f32 := by
  show after hostOps0 _ _ = _
  after_results

/-- The second weight matrix, its values unchanged by the conversion. -/
theorem entry_secondWeights : V m c main_v2 = truncf (F := Ideal) .bf16 (m ((c.tc : Thread nD τ).loc main_arg5)) bitsLt_bf16_f32 := by
  show after hostOps0 _ _ = _
  after_results

/-- The third weight matrix, its values unchanged by the conversion. -/
theorem entry_thirdWeights : V m c main_v3 = truncf (F := Ideal) .bf16 (m ((c.tc : Thread nD τ).loc main_arg7)) bitsLt_bf16_f32 := by
  show after hostOps0 _ _ = _
  after_results

/-- The first offset as a single row. -/
theorem entry_firstOffset : V m c main_v4 = shapeCast S1x512 (m ((c.tc : Thread nD τ).loc main_arg4)) shapeCasts_S512_S1x512 := by
  show after hostOps0 _ _ = _
  after_results
  rfl

/-- The second offset as a single row. -/
theorem entry_secondOffset : V m c main_v5 = shapeCast S1x512 (m ((c.tc : Thread nD τ).loc main_arg6)) shapeCasts_S512_S1x512 := by
  show after hostOps0 _ _ = _
  after_results
  rfl

/-- The third offset as a single row. -/
theorem entry_thirdOffset : V m c main_v6 = shapeCast S1x256 (m ((c.tc : Thread nD τ).loc main_arg8)) shapeCasts_S256_S1x256 := by
  show after hostOps0 _ _ = _
  after_results
  rfl

/-- The readout offset as a single row. -/
theorem entry_readoutOffset : V m c main_v7 = shapeCast S1x1 (m ((c.tc : Thread nD τ).loc main_arg10)) shapeCasts_S1_S1x1 := by
  show after hostOps0 _ _ = _
  after_results
  rfl

/-! ## From one block to the array -/

/-- Which block each window is at: the node window and the output window move with the point, the others stay. -/
theorem blockAt : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![t.val, 0, 0] ∧ t.val < 10 :=
  (by decide +kernel : ∀ t : Fin grid0.N, _)

/-- Node `n` of graph `g` is row `1000 g + n` of the flattened table. -/
theorem flatten_apply (x : FVec Ideal S50x1000x512 .f32) (g : Fin 50) (n : Fin 1000) (k : Fin 512) :
    shapeCast S50000x512 x shapeCasts_S50x1000x512_S50000x512 (ix2 (⟨g.val * 1000 + n.val, by omega⟩ : Fin 50000) k) = x (ix3 g n k) := by
  pointwise

/-- Row `1000 p + n` of the node block at point `t` is node `n` of graph `5 t + p`. -/
theorem nodes_read (t : Fin cfg0.N) (p : Fin 5) (g : Fin 50) (hg : g.val = t.val * 5 + p.val) (n : Fin 1000) (k : Fin 512) :
    iblk m c 0 t (ix2 (⟨p.val * 1000 + n.val, by omega⟩ : Fin 5000) k) = (m ((c.tc : Thread nD τ).loc main_arg0) : FVec Ideal S50x1000x512 .f32) (ix3 g n k) := by
  refine (?_ : _ = V m c main_v0 (ix2 (⟨g.val * 1000 + n.val, by omega⟩ : Fin 50000) k)).trans ?_
  · blk_ext [iblk, blockAt t]
  · rw [entry_nodes]
    exact flatten_apply _ g n k

/-- The first weight matrix is read whole at every point. -/
theorem firstWeights_read (t : Fin cfg0.N) (k : Fin 512) (l : Fin 512) :
    iblk m c 1 t (ix2 k l) = (m ((c.tc : Thread nD τ).loc main_arg3) : FVec Ideal S512x512 .f32) (ix2 k l) := by
  refine (?_ : _ = V m c main_v1 (ix2 k l)).trans ?_
  · blk_ext [iblk, blockAt t]
  · rw [entry_firstWeights]
    rfl

/-- The second weight matrix is read whole at every point. -/
theorem secondWeights_read (t : Fin cfg0.N) (k : Fin 512) (l : Fin 512) :
    iblk m c 3 t (ix2 k l) = (m ((c.tc : Thread nD τ).loc main_arg5) : FVec Ideal S512x512 .f32) (ix2 k l) := by
  refine (?_ : _ = V m c main_v2 (ix2 k l)).trans ?_
  · blk_ext [iblk, blockAt t]
  · rw [entry_secondWeights]
    rfl

/-- The third weight matrix is read whole at every point. -/
theorem thirdWeights_read (t : Fin cfg0.N) (k : Fin 512) (l : Fin 256) :
    iblk m c 5 t (ix2 k l) = (m ((c.tc : Thread nD τ).loc main_arg7) : FVec Ideal S512x256 .f32) (ix2 k l) := by
  refine (?_ : _ = V m c main_v3 (ix2 k l)).trans ?_
  · blk_ext [iblk, blockAt t]
  · rw [entry_thirdWeights]
    rfl

/-- The first offset is read whole at every point. -/
theorem firstOffset_read (t : Fin cfg0.N) (l : Fin 512) :
    iblk m c 2 t (ix2 0 l) = (m ((c.tc : Thread nD τ).loc main_arg4) : FVec Ideal S512 .f32) (ix1 l) := by
  refine (?_ : _ = V m c main_v4 (ix2 0 l)).trans ?_
  · blk_ext [iblk, blockAt t]
  · rw [entry_firstOffset]
    pointwise

/-- The second offset is read whole at every point. -/
theorem secondOffset_read (t : Fin cfg0.N) (l : Fin 512) :
    iblk m c 4 t (ix2 0 l) = (m ((c.tc : Thread nD τ).loc main_arg6) : FVec Ideal S512 .f32) (ix1 l) := by
  refine (?_ : _ = V m c main_v5 (ix2 0 l)).trans ?_
  · blk_ext [iblk, blockAt t]
  · rw [entry_secondOffset]
    pointwise

/-- The third offset is read whole at every point. -/
theorem thirdOffset_read (t : Fin cfg0.N) (l : Fin 256) :
    iblk m c 6 t (ix2 0 l) = (m ((c.tc : Thread nD τ).loc main_arg8) : FVec Ideal S256 .f32) (ix1 l) := by
  refine (?_ : _ = V m c main_v6 (ix2 0 l)).trans ?_
  · blk_ext [iblk, blockAt t]
  · rw [entry_thirdOffset]
    pointwise

/-- The readout's weights are read whole at every point. -/
theorem readoutWeights_read (t : Fin cfg0.N) (d : Fin 256) :
    iblk m c 7 t (ix2 d 0) = (m ((c.tc : Thread nD τ).loc main_arg9) : FVec Ideal S256x1 .f32) (ix2 d 0) := by
  refine (?_ : _ = V m c main_arg9 (ix2 d 0)).trans ?_
  · blk_ext [iblk, blockAt t]
  · rw [V_main_arg9]

/-- The readout's offset is read at every point. -/
theorem readoutOffset_read (t : Fin cfg0.N) :
    iblk m c 8 t (ix2 0 0) = (m ((c.tc : Thread nD τ).loc main_arg10) : FVec Ideal S1 .f32) (ix1 0) := by
  refine (?_ : _ = V m c main_v7 (ix2 0 0)).trans ?_
  · blk_ext [iblk, blockAt t]
  · rw [entry_readoutOffset]
    pointwise

/-- At point `t` the body stores, for graph `p` of its block, the score of graph `5 t + p`. -/
theorem point_apply (t : Fin cfg0.N) (p : Fin 5) (g : Fin 50) (hg : g.val = t.val * 5 + p.val) :
    k0_pay1 (F := Ideal) (k0_pay2 (iblk m c 0 t) (iblk m c 1 t) (iblk m c 2 t) (iblk m c 3 t) (iblk m c 4 t) (iblk m c 5 t) (iblk m c 6 t) (iblk m c 7 t))
      (iblk m c 8 t) (ix3 p 0 0) = scoreAt m c g := by
  refine (BlockValue.stored_apply _ _ _ _ _ _ _ _ _ p).trans ?_
  unfold scoreAt graphScore
  simp only [nodes_read m c t p g hg, firstWeights_read, firstOffset_read, secondWeights_read, secondOffset_read, thirdWeights_read, thirdOffset_read,
    readoutWeights_read, readoutOffset_read]

/-- The output array after the run: at graph `g`, its score. -/
theorem array_eq : (dats m 0 c).arrAt 9 (cfgs 0).N = fun i => scoreAt m c (i 0) := by
  refine (dats m 0 c).arrAt_eq_of_covers 9 _ (by decide +kernel) fun t _ y => ?_
  blk_simp
  rw [after0_9]
  frame_out
  have hy : y = ix3 (y 0) 0 0 := by
    funext a
    match a with
    | ⟨0, _⟩ => rfl
    | ⟨1, _⟩ => exact Subsingleton.elim (α := Fin 1) _ _
    | ⟨2, _⟩ => exact Subsingleton.elim (α := Fin 1) _ _
  rw [hy]
  refine point_apply m c t (y 0) _ ?_
  blk_simp [blockAt t]

/-! ## The run -/

/-- The result after the trailing flattening. -/
theorem result_eq : Pipeline.afterTail₀ cfgs (dats m) 0 (V0 m) [hostOps1] c main_v9 = fun i => scoreAt m c (i 0) := by
  show after hostOps1 _ _ = _
  after_results
  funext i
  have h := (Pipeline.withArrays_arr spec0 launch0.win.arr_inj c (V0 m c) (fun w => (dats m 0 c).arrAt w (cfgs 0).N) 9).trans (array_eq m c)
  refine (congrFun (congrArg (fun A => shapeCast main_v9.ty.shape A shapeCasts_S50x1x1_S50x1) h) i).trans ?_
  idx_vars i
  pointwise

/-- Every run of the kernel ends with each graph's score in the result and the arguments as launched. -/
theorem run (ρ : Dev nD → PrngReg) : θ_run defs (onTc (τ := τ) (main (F := Ideal))) ⟨m, fun _ => 0, ρ⟩ (fun r => ∀ c : Dev nD,
      r.2.mem ((c.tc : Thread nD τ).loc main_v9) = (fun i => scoreAt m c (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  run_from Gen.run_main m ρ
  · exact result_eq m c
  · exact W_main_arg0 m (dats m) c
  · exact W_main_arg1 m (dats m) c
  · exact W_main_arg2 m (dats m) c
  · exact W_main_arg3 m (dats m) c
  · exact W_main_arg4 m (dats m) c
  · exact W_main_arg5 m (dats m) c
  · exact W_main_arg6 m (dats m) c
  · exact W_main_arg7 m (dats m) c
  · exact W_main_arg8 m (dats m) c
  · exact W_main_arg10 m (dats m) c

end Cert.KernelIdeal.RunValue
-- ==== Proof.RefValue.lean ====
/- What the reference computes: at graph `g`, the score of the rows `1000 g + n` of the flattened node table.

   The pooling is an accumulating scatter: row `r` of the features is added to row `r / 1000` of a zero table, so the
   rows that land on graph `g` are exactly `1000 g, …, 1000 g + 999`. -/
module

public import proofs.«01_k».proof.Proof.Gen.ReferenceIdeal.Run
public import Idealize.ShloMosaic.Lib.Routing.OpsPair
public import proofs.«01_k».proof.Proof.Spec

@[expose] public section

set_option maxRecDepth 16384

noncomputable section

namespace Cert.ReferenceIdeal.PoolValue

open Cert.ReferenceIdeal Cert.ReferenceIdeal.Gen Cert.GraphScore Idealize.ShloMosaic

/-- The graph number of every node, as the reference builds it: a count over the graphs repeated a thousand times each. -/
def graphOf : IVec S50000x1 32 :=
  broadcastInDim S50000x1 ![0] bcast_S50000_S50000x1_0
    (shapeCast S50000 (broadcastInDim S50x1000 ![0] bcast_S50_S50x1000_0 (iotaInDim S50 32 0)) shapeCasts_S50x1000_S50000)

/-- Node `r` belongs to graph `r / 1000`. -/
theorem graphOf_apply (r : Fin 50000) : graphOf (ix2 r 0) = BitVec.ofNat 32 (r.val / 1000) := by
  pointwise [graphOf]

/-- The dimension numbers of the pooling scatter. -/
abbrev scat : ScatterDims S50x256 S50000x1 S50000x256 := scatter_S50x256_S50000x1_S50000x256_1_0_0_1

/-- No offset within a row of the table comes from the update: it is placed as a whole row. -/
theorem window_zero (k : S50000x256.Idx) : ScatterDims.window scat k 0 = 0 := rfl
/-- Along a row of the table an update keeps its own coordinate. -/
theorem window_one (k : S50000x256.Idx) : ScatterDims.window scat k 1 = (k 1).val := rfl
/-- Along a row of the table no graph number is added. -/
theorem start_one (k : S50000x256.Idx) (idx : IVec S50000x1 32) : ScatterDims.start scat k idx 1 = 0 := rfl
/-- The row of the table an update goes to is the graph number of its node. -/
theorem start_zero (r : Fin 50000) (c : Fin 256) (idx : IVec S50000x1 32) : ScatterDims.start scat (ix2 r c) idx 0 = (idx (ix2 r 0)).toInt := by
  refine congrArg (fun i => (idx i).toInt) (?_ : ScatterDims.siIdx scat (ix2 r c) ⟨0, by decide⟩ = ix2 r 0)
  funext b
  match b with
  | ⟨0, _⟩ => rfl
  | ⟨1, _⟩ => rfl

/-- Entry `(r, c)` of the features lands on entry `(g, d)` of the table exactly when node `r` is of graph `g` and `c` is `d`. -/
theorem lands_iff (r : Fin 50000) (c d : Fin 256) (g : Fin 50) :
    ScatterDims.resultIdx? scat (ix2 r c) graphOf = some (ix2 g d) ↔ r.val / 1000 = g.val ∧ c = d := by
  rw [Routing.resultIdx?_eq_some]
  have hint : (BitVec.ofNat 32 (r.val / 1000)).toInt = ((r.val / 1000 : Nat) : Int) := by
    have := r.isLt
    rw [BitVec.toInt_eq_toNat_of_lt (by simp; omega), BitVec.toNat_ofNat]
    omega
  constructor
  · intro h
    have h0 := h 0
    have h1 := h 1
    rw [start_zero, window_zero, graphOf_apply, hint] at h0
    rw [start_one, window_one] at h1
    refine ⟨?_, Fin.ext ?_⟩
    · change ((r.val / 1000 : Nat) : Int) + ((0 : Nat) : Int) = (g.val : Int) at h0
      omega
    · change (0 : Int) + ((c.val : Nat) : Int) = (d.val : Int) at h1
      omega
  · rintro ⟨h0, rfl⟩ a
    match a with
    | ⟨0, _⟩ =>
      show ScatterDims.start scat (ix2 r c) graphOf 0 + ((ScatterDims.window scat (ix2 r c) 0 : Nat) : Int) = (g.val : Int)
      rw [start_zero, window_zero, graphOf_apply, hint]
      omega
    | ⟨1, _⟩ =>
      show ScatterDims.start scat (ix2 r c) graphOf 1 + ((ScatterDims.window scat (ix2 r c) 1 : Nat) : Int) = (c.val : Int)
      rw [start_one, window_one]
      exact Int.zero_add _

/-- A sum over the nodes that keeps graph `g`'s terms only is the sum over that graph's thousand nodes. -/
theorem sum_graph (f : Fin 50000 → EReal) (g : Fin 50) :
    ∑ r : Fin 50000, (if r.val / 1000 = g.val then f r else 0) = ∑ n : Fin 1000, f ⟨g.val * 1000 + n.val, by omega⟩ := by
  rw [← Finset.sum_filter]
  symm
  refine Finset.sum_bij (fun n _ => ⟨g.val * 1000 + n.val, by omega⟩) ?_ ?_ ?_ ?_
  · intro n _
    rw [Finset.mem_filter]
    exact ⟨Finset.mem_univ _, by show (g.val * 1000 + n.val) / 1000 = g.val; omega⟩
  · intro a _ b _ e
    have := congrArg Fin.val e
    dsimp only at this
    exact Fin.ext (by omega)
  · intro r hr
    rw [Finset.mem_filter] at hr
    exact ⟨⟨r.val % 1000, by omega⟩, Finset.mem_univ _, Fin.ext (by have := hr.2; dsimp only; omega)⟩
  · intro _ _; rfl

/-- The pooled table at graph `g`, coordinate `d`: the sum of that coordinate over the graph's thousand nodes. -/
theorem pool_apply (z : FVec Ideal S50x256 .f32) (h : FVec Ideal S50000x256 .f32) (g : Fin 50) (d : Fin 256) :
    Host.scatterAdd scat z graphOf h (ix2 g d) = z (ix2 g d) + ∑ n : Fin 1000, h (ix2 (⟨g.val * 1000 + n.val, by omega⟩ : Fin 50000) d) := by
  show z (ix2 g d) + ∑ j ∈ Finset.univ.filter (fun j => ScatterDims.resultIdx? scat j graphOf = some (ix2 g d)), h j = _
  refine congrArg (z (ix2 g d) + ·) ?_
  rw [Finset.sum_filter, ValueIdx.sum_idx2, ← sum_graph (fun r => h (ix2 r d)) g]
  refine Finset.sum_congr rfl fun r _ => ?_
  simp only [← ix2_eq_valueIdx, lands_iff]
  by_cases e : r.val / 1000 = g.val
  · simp [e]
  · simp [e]

/-- The rectifier as the reference writes it: a choice on the sign. -/
def rect (y : FVec Ideal S50000x512 .f32) : FVec Ideal S50000x512 .f32 :=
  select (cmpf .oge y (broadcastInDim S50000x512 ![] bcast_S_S50000x512 (constant S_ .f32 0x00000000#32))) y
    (mulf (broadcastInDim S50000x512 ![] bcast_S_S50000x512 (constant S_ .f32 0x3C23D70A#32)) y)

/-- A hidden affine layer of the reference, on all nodes at once. -/
def hidden (y : FVec Ideal S50000x512 .f32) (W : FVec Ideal S512x512 .f32) (b : FVec Ideal S512 .f32) : FVec Ideal S50000x512 .f32 :=
  addf (Host.dotGeneral dot_S50000x512_S512x512_S50000x512_1_0_0_1_n_n none y W)
    (broadcastInDim S50000x512 ![0, 1] bcast_S1x512_S50000x512_0_1 (broadcastInDim S1x512 ![1] bcast_S512_S1x512_1 b))

/-- The last affine layer of the reference, on all nodes at once. -/
def last (y : FVec Ideal S50000x512 .f32) (W : FVec Ideal S512x256 .f32) (b : FVec Ideal S256 .f32) : FVec Ideal S50000x256 .f32 :=
  addf (Host.dotGeneral dot_S50000x512_S512x256_S50000x256_1_0_0_1_n_n none y W)
    (broadcastInDim S50000x256 ![0, 1] bcast_S1x256_S50000x256_0_1 (broadcastInDim S1x256 ![1] bcast_S256_S1x256_1 b))

/-- The rectifier acts on each entry as the leaky rectifier. -/
theorem rect_apply (y : FVec Ideal S50000x512 .f32) (r : Fin 50000) (j : Fin 512) : rect y (ix2 r j) = leaky (y (ix2 r j)) := by
  rw [leaky_eq_ite]
  pointwise [rect]
  rfl

/-- A hidden layer at row `r` is the affine layer of that row. -/
theorem hidden_apply (y : FVec Ideal S50000x512 .f32) (W : FVec Ideal S512x512 .f32) (b : FVec Ideal S512 .f32) (r : Fin 50000) (j : Fin 512) :
    hidden y W b (ix2 r j) = layer (fun k l => W (ix2 k l)) (fun l => b (ix1 l)) (fun k => y (ix2 r k)) j := by
  pointwise [hidden]
  rfl

/-- The last layer at row `r` is the affine layer of that row. -/
theorem last_apply (y : FVec Ideal S50000x512 .f32) (W : FVec Ideal S512x256 .f32) (b : FVec Ideal S256 .f32) (r : Fin 50000) (j : Fin 256) :
    last y W b (ix2 r j) = layer (fun k l => W (ix2 k l)) (fun l => b (ix1 l)) (fun k => y (ix2 r k)) j := by
  pointwise [last]
  rfl

/-- Node `n` of graph `g` is row `1000 g + n` of the flattened node table. -/
theorem nodes_apply (x : FVec Ideal S50x1000x512 .f32) (g : Fin 50) (n : Fin 1000) (k : Fin 512) :
    shapeCast S50000x512 x shapeCasts_S50x1000x512_S50000x512 (ix2 (⟨g.val * 1000 + n.val, by omega⟩ : Fin 50000) k) = x (ix3 g n k) := by
  pointwise

/-- The readout of a pooled table that starts from zero. -/
theorem readout_apply (h : FVec Ideal S50000x256 .f32) (w : FVec Ideal S256x1 .f32) (b : FVec Ideal S1 .f32) (g : Fin 50) :
    addf (Host.dotGeneral dot_S50x256_S256x1_S50x1_1_0_0_1_n_n none
        (Host.scatterAdd scat (broadcastInDim S50x256 ![] bcast_S_S50x256 (constant S_ .f32 0x00000000#32)) graphOf h) w)
      (broadcastInDim S50x1 ![0, 1] bcast_S1x1_S50x1_0_1 (broadcastInDim S1x1 ![1] bcast_S1_S1x1_1 b)) (ix2 g 0)
      = score (fun (n : Fin 1000) d => h (ix2 (⟨g.val * 1000 + n.val, by omega⟩ : Fin 50000) d)) (fun d => w (ix2 d 0)) (b (ix1 0)) := by
  have hp := fun d => pool_apply (broadcastInDim S50x256 ![] bcast_S_S50x256 (constant S_ .f32 0x00000000#32)) h g d
  generalize Host.scatterAdd scat _ graphOf h = p at hp ⊢
  pointwise at hp
  pointwise [hp]
  rfl

/-- The reference's result at graph `g` is that graph's score. -/
theorem result_apply (m : (ℓ : Loc nD τ sig) → Buf (Elt Ideal) ℓ) (c : Dev nD) (g : Fin 50) :
    Value.res_main_v33 (F := Ideal) m c (ix2 g 0)
      = graphScore (m ((c.tc : Thread nD τ).loc main_arg0)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) g := by
  unfold Value.res_main_v33
  refine (readout_apply (last (rect (hidden (rect (hidden (shapeCast S50000x512 (m ((c.tc : Thread nD τ).loc main_arg0)) shapeCasts_S50x1000x512_S50000x512)
    (m ((c.tc : Thread nD τ).loc main_arg3)) (m ((c.tc : Thread nD τ).loc main_arg4)))) (m ((c.tc : Thread nD τ).loc main_arg5))
    (m ((c.tc : Thread nD τ).loc main_arg6)))) (m ((c.tc : Thread nD τ).loc main_arg7)) (m ((c.tc : Thread nD τ).loc main_arg8))) _ _ g).trans ?_
  simp only [last_apply, rect_apply, hidden_apply, nodes_apply]
  rfl

/-- The reference's result as an array: at graph `g`, its score. -/
theorem result_eq (m : (ℓ : Loc nD τ sig) → Buf (Elt Ideal) ℓ) (c : Dev nD) :
    Value.res_main_v33 (F := Ideal) m c
      = fun i => graphScore (m ((c.tc : Thread nD τ).loc main_arg0)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) (i 0) := by
  funext i
  have hi : i = ix2 (i 0) 0 := by
    funext a
    match a with
    | ⟨0, _⟩ => rfl
    | ⟨1, _⟩ => exact Subsingleton.elim (α := Fin 1) _ _
  exact (congrArg (Value.res_main_v33 (F := Ideal) m c) hi).trans (result_apply m c (i 0))

end Cert.ReferenceIdeal.PoolValue
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments as they were and, having no semaphore, ends with every counter at zero. -/
theorem reference_frame : @quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run m ρ)

/-- From memories that agree on the arguments, the kernel's result and the reference's are the same scores. -/
theorem same_scores : @algebraic_KernelIdeal_ReferenceIdeal Cert.KernelIdeal.Gen.facts Cert.ReferenceIdeal.Gen.facts := by
  intro m ρ m' ρ' _ agree
  refine ⟨fun c i => Cert.KernelIdeal.RunValue.scoreAt m c (i 0), Cert.KernelIdeal.RunValue.run m ρ,
    (θ_run Cert.ReferenceIdeal.defs _ _).mono (fun r h c => ⟨(h c).1.trans ?_, (h c).2⟩) (Cert.ReferenceIdeal.Value.run m' ρ')⟩
  refine (Cert.ReferenceIdeal.PoolValue.result_eq m' c).trans ?_
  obtain ⟨h0, -, -, h3, h4, h5, h6, h7, h8, h9, h10⟩ := agree c
  rw [h0, h3, h4, h5, h6, h7, h8, h9, h10]
  rfl

/-- The five claims: the three programs' frames, that the idealized kernel stands for the kernel, and that it computes
    what the reference computes. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, same_scores⟩

end Cert.Proof

end
